-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S43x1024x2048 : Shape := ⟨3, ![43, 1024, 2048]⟩
abbrev S2048 : Shape := ⟨1, ![2048]⟩
abbrev S44032x2048 : Shape := ⟨2, ![44032, 2048]⟩
abbrev S1x2048 : Shape := ⟨2, ![1, 2048]⟩
abbrev S43x1x1024 : Shape := ⟨3, ![43, 1, 1024]⟩
abbrev S512x2048 : Shape := ⟨2, ![512, 2048]⟩
abbrev S1x1x512 : Shape := ⟨3, ![1, 1, 512]⟩
abbrev S32x2048 : Shape := ⟨2, ![32, 2048]⟩
abbrev S32 : Shape := ⟨1, ![32]⟩
abbrev S32x1 : Shape := ⟨2, ![32, 1]⟩
abbrev S512x1 : Shape := ⟨2, ![512, 1]⟩
abbrev S43x1024x1 : Shape := ⟨3, ![43, 1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S43x1024x2048, .bf16⟩
  | .hbm, ⟨1, _⟩ => ⟨S43x1024x2048, .bf16⟩
  | .hbm, ⟨2, _⟩ => ⟨S2048, .bf16⟩
  | .hbm, ⟨3, _⟩ => ⟨S44032x2048, .bf16⟩
  | .hbm, ⟨4, _⟩ => ⟨S44032x2048, .bf16⟩
  | .hbm, ⟨5, _⟩ => ⟨S1x2048, .bf16⟩
  | .hbm, ⟨6, _⟩ => ⟨S44032x2048, .bf16⟩
  | .hbm, ⟨7, _⟩ => ⟨S44032x2048, .i8⟩
  | .hbm, ⟨8, _⟩ => ⟨S43x1x1024, .f32⟩
  | .hbm, ⟨9, _⟩ => ⟨S43x1x1024, .i32⟩
  | .hbm, ⟨10, _⟩ => ⟨S43x1024x2048, .bf16⟩
  | .hbm, ⟨11, _⟩ => ⟨S43x1024x2048, .i8⟩
  | .hbm, ⟨12, _⟩ => ⟨S43x1024x1, .f32⟩
  | .hbm, ⟨13, _⟩ => ⟨S43x1024x1, .i32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .i8⟩
  | .local _ .vmem, ⟨8, _⟩ => ⟨S512x2048, .i8⟩
  | .local _ .vmem, ⟨9, _⟩ => ⟨S1x1x512, .f32⟩
  | .local _ .vmem, ⟨10, _⟩ => ⟨S1x1x512, .f32⟩
  | .local _ .vmem, ⟨11, _⟩ => ⟨S1x1x512, .i32⟩
  | .local _ .vmem, ⟨12, _⟩ => ⟨S1x1x512, .i32⟩
  | _, _ => ⟨S43x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S43x1024x2048 : Shape := ⟨3, ![43, 1024, 2048]⟩
abbrev S2048 : Shape := ⟨1, ![2048]⟩
abbrev S43x1024x1 : Shape := ⟨3, ![43, 1024, 1]⟩
abbrev S43x1024 : Shape := ⟨2, ![43, 1024]⟩
abbrev S1x1x2048 : Shape := ⟨3, ![1, 1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S43x1024x2048, .bf16⟩
  | .hbm, ⟨1, _⟩ => ⟨S43x1024x2048, .bf16⟩
  | .hbm, ⟨2, _⟩ => ⟨S2048, .bf16⟩
  | .hbm, ⟨3, _⟩ => ⟨S43x1024x2048, .bf16⟩
  | .hbm, ⟨4, _⟩ => ⟨S43x1024x2048, .i8⟩
  | .hbm, ⟨5, _⟩ => ⟨S43x1024x1, .f32⟩
  | .hbm, ⟨6, _⟩ => ⟨S43x1024x1, .i32⟩
  | .local _ .vmem, ⟨0, _⟩ => ⟨S43x1024x2048, .bf16⟩
  | .local _ .vmem, ⟨1, _⟩ => ⟨S43x1024x2048, .bf16⟩
  | .local _ .vmem, ⟨2, _⟩ => ⟨S2048, .bf16⟩
  | .local _ .vmem, ⟨3, _⟩ => ⟨S43x1024x2048, .bf16⟩
  | .local _ .vmem, ⟨4, _⟩ => ⟨S43x1024x2048, .i8⟩
  | .local _ .vmem, ⟨5, _⟩ => ⟨S43x1024x1, .f32⟩
  | .local _ .vmem, ⟨6, _⟩ => ⟨S43x1024x1, .i32⟩
  | _, _ => ⟨S43x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S43x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S43x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S43x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S43x1024x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S43x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S43x1024x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Chunk.lean ====
/- What the kernel body stores, chunk by chunk: sixteen chunks of 32 rows, all computed by one and the same function. -/
module

public import proofs.«01_k».proof.Proof.Gen.KernelIdeal.Frame

@[expose] public section

set_option maxRecDepth 16384

noncomputable section

namespace Cert.KernelIdeal.Chunk

open Cert.KernelIdeal Cert.KernelIdeal.Gen Idealize.ShloMosaic Idealize.SL.Sem

variable {F : FTy → Type} [FloatOps F]

/-- The new residual of a chunk of 32 rows, from the chunks of the two inputs. -/
def new (x r : Vec F S32x2048 .bf16) : Vec F S32x2048 .bf16 := k0_pay3 x r

/-- The scales of a chunk's 32 rows. -/
def scale (g : Vec F S1x2048 .bf16) (x r : Vec F S32x2048 .bf16) : FVec F S32x1 .f32 := k0_pay6 g x r

/-- The zero points of a chunk's 32 rows, still as floats. -/
def zp (g : Vec F S1x2048 .bf16) (x r : Vec F S32x2048 .bf16) : FVec F S32x1 .f32 :=
  k0_pay9 (k0_pay7 g x r) 127#32 (k0_pay8 (F := F))

/-- The codes of a chunk. -/
def codes (g : Vec F S1x2048 .bf16) (x r : Vec F S32x2048 .bf16) : Vec F S32x2048 .i8 :=
  k0_pay10 (k0_pay4 g x r) (k0_pay6 g x r) (k0_pay7 g x r) 127#32 (k0_pay8 (F := F))

variable (x0 x1 : Vec F S512x2048 .bf16) (x2 : Vec F S1x2048 .bf16)

/-- Where chunk `n` of a block of 512 rows lies: at rows `32 n` to `32 n + 31`. -/
theorem chunk_inb (n : Fin 16) : ∀ a, (![32 * n.val, 0] : Fin 2 → Nat) a + S32x2048.size a ≤ S512x2048.size a
  | ⟨0, _⟩ => by show 32 * n.val + 32 ≤ 512; omega
  | ⟨1, _⟩ => by show 0 + 2048 ≤ 2048; omega

/-- The rectangle of chunk `n`. -/
abbrev chunk (n : Fin 16) : Rect S512x2048 :=
  Rect.unit (s := S512x2048) ![32 * n.val, 0] S32x2048.size (chunk_inb n)

/-- Chunk `n` of a block. -/
abbrev rows (n : Fin 16) (X : Vec F S512x2048 .bf16) : Vec F S32x2048 .bf16 := View.ld X (chunk n)

/-- Window 3's buffer after the body: chunk by chunk the new residual, the last chunk stored last. -/
theorem out3_eq : out0_3 x0 x1 x2 = View.canon (List.ofFn fun n : Fin 16 =>
    (⟨chunk n.rev, new (rows n.rev x0) (rows n.rev x1)⟩ : View.Piece (Elt F) S512x2048 .bf16)) := rfl

/-- Window 4's buffer after the body: chunk by chunk the codes, the last chunk stored last. -/
theorem out4_eq : out0_4 x0 x1 x2 = View.canon (List.ofFn fun n : Fin 16 =>
    (⟨chunk n.rev, codes (View.ld x2 r0_0) (rows n.rev x0) (rows n.rev x1)⟩ : View.Piece (Elt F) S512x2048 .i8)) := rfl

/-- Sixteen columns of 32 rows stack to a column of 512. -/
theorem concat_ok : Shape.Concatenates
    ((List.ofFn fun _ : Fin 16 => (⟨S32x1, fun _ => (0 : Nat)⟩ : (s : Shape) × (s.Idx → Nat))).map (·.1)) S512x1 0 :=
  Facts₀.concatenates_S32x1_S32x1_S32x1_S32x1_S32x1_S32x1_S32x1_S32x1_S32x1_S32x1_S32x1_S32x1_S32x1_S32x1_S32x1_S32x1_S512x1_d0

/-- Window 5's buffer after the body: the sixteen chunks' scales stacked, laid along the lanes. -/
theorem out5_eq : out0_5 x0 x1 x2 = View.canon [⟨r0_17, shapeCast S1x1x512
    (concatenate S512x1 0 (List.ofFn fun n : Fin 16 =>
      (⟨S32x1, scale (View.ld x2 r0_0) (rows n x0) (rows n x1)⟩ : (s : Shape) × (s.Idx → F .f32))) concat_ok)
    Facts₀.shapeCasts_S512x1_S1x1x512⟩] := rfl

/-- Window 6's buffer after the body: the sixteen chunks' zero points stacked, laid along the lanes, as integers. -/
theorem out6_eq : out0_6 x0 x1 x2 = View.canon [⟨r0_17, fptosi 32 (shapeCast S1x1x512
    (concatenate S512x1 0 (List.ofFn fun n : Fin 16 =>
      (⟨S32x1, zp (View.ld x2 r0_0) (rows n x0) (rows n x1)⟩ : (s : Shape) × (s.Idx → F .f32))) concat_ok)
    Facts₀.shapeCasts_S512x1_S1x1x512)⟩] := rfl

end Cert.KernelIdeal.Chunk

end
-- ==== Proof.Row.lean ====
/- One row of 2048 numbers: its normalization, its scale, its zero point and its codes, as functions of extended reals. -/
module

public import Idealize.ShloMosaic.Lib.Pointwise

@[expose] public section

noncomputable section

namespace Cert.Row

open Idealize.ShloMosaic

/-- The lower end of the signed 8-bit range, -128, as a number. -/
abbrev lowest : EReal := (((4294967168#32).toInt : ℝ) : EReal)
/-- The upper end of the signed 8-bit range, 127, as a number. -/
abbrev highest : EReal := (((127#32).toInt : ℝ) : EReal)

/-- A value held inside the signed 8-bit range. -/
def clip (x : EReal) : EReal := min highest (max lowest x)

/-- Rounding to the nearest integer, ties to even. -/
def round (x : EReal) : EReal := Ideal.liftRound Ideal.roundHalfEven x

/-- The mean of the squares of a row. -/
def meanSq (v : Fin 2048 → EReal) : EReal :=
  Ideal.div (∑ k, v k * v k) (Ideal.ofBits .f32 1157627904#32)

/-- The row divided by the root of its mean square (plus the small constant), times the gains. -/
def normed (v g : Fin 2048 → EReal) (k : Fin 2048) : EReal :=
  v k * Ideal.rsqrt (meanSq v + Ideal.ofBits .f32 897988541#32) * g k

/-- The least entry of a row. -/
def lo (y : Fin 2048 → EReal) : EReal := Finset.univ.fold min (Ideal.ofBits .f32 2139095040#32) y

/-- The greatest entry of a row. -/
def hi (y : Fin 2048 → EReal) : EReal := Finset.univ.fold max (Ideal.ofBits .f32 4286578688#32) y

/-- The quantization step of a row: a 255th of its spread, and one for a constant row. -/
def scale (y : Fin 2048 → EReal) : EReal :=
  if hi y = lo y then 1 else Ideal.div (hi y - lo y) (Ideal.ofBits .f32 1132396544#32)

/-- The zero point of a row, as a number. -/
def zp (y : Fin 2048 → EReal) : EReal :=
  clip (round (Ideal.ofBits .f32 3271557120#32 - Ideal.div (lo y) (scale y)))

/-- The code of a row's entry `k`. -/
def code (y : Fin 2048 → EReal) (k : Fin 2048) : BitVec 8 :=
  FloatOps.fptosi (F := Ideal) (φ := .f32) 8 (clip (round (Ideal.div (y k) (scale y)) + zp y))

/-- Clipping an integer as a number is clipping it as an integer. -/
theorem clip_coe (n : ℤ) : clip ((n : ℝ) : EReal) = (((min 127 (max (-128) n) : ℤ) : ℝ) : EReal) := by
  have h : Monotone fun n : ℤ => ((n : ℝ) : EReal) := fun a b hab =>
    EReal.coe_le_coe_iff.2 (Int.cast_le.2 hab)
  show min (((127 : ℤ) : ℝ) : EReal) (max (((-128 : ℤ) : ℝ) : EReal) ((n : ℝ) : EReal)) = _
  exact ((h.map_min (a := 127) (b := max (-128) n)).trans (congrArg _ h.map_max)).symm

/-- Clipped and rounded, a value is an integer between -128 and 127. -/
theorem clip_round_int (x : EReal) : ∃ n : ℤ, -128 ≤ n ∧ n ≤ 127 ∧ clip (round x) = ((n : ℝ) : EReal) := by
  induction x using EReal.rec with
  | bot =>
    refine ⟨-128, by omega, by omega, ?_⟩
    show min (((127 : ℤ) : ℝ) : EReal) (max (((-128 : ℤ) : ℝ) : EReal) ⊥) = _
    rw [max_eq_left bot_le]
    exact min_eq_right (by exact_mod_cast (by norm_num : (-128 : ℤ) ≤ 127))
  | top =>
    refine ⟨127, by omega, by omega, ?_⟩
    show min (((127 : ℤ) : ℝ) : EReal) (max (((-128 : ℤ) : ℝ) : EReal) ⊤) = _
    rw [max_eq_right le_top, min_eq_left le_top]
  | coe r => exact ⟨min 127 (max (-128) (Ideal.roundHalfEven r)), by omega, by omega, clip_coe _⟩

/-- A zero point turned into a 32-bit integer and back is unchanged. -/
theorem sitofp_fptosi_zp (y : Fin 2048 → EReal) :
    FloatOps.sitofp (F := Ideal) .f32 (FloatOps.fptosi (F := Ideal) (φ := .f32) 32 (zp y)) = zp y := by
  obtain ⟨n, h1, h2, h⟩ := clip_round_int (Ideal.ofBits .f32 3271557120#32 - Ideal.div (lo y) (scale y))
  have hb : Ideal.fptosi 32 ((n : ℝ) : EReal) = BitVec.ofInt 32 n := by
    rw [Ideal.fptosi, Ideal.toIntClamped_coe]
    congr 1
    rw [Int.floor_intCast, Int.ceil_intCast, ite_self]
    norm_num
    omega
  rw [zp, h]
  show (((Ideal.fptosi 32 ((n : ℝ) : EReal)).toInt : ℝ) : EReal) = _
  rw [hb, BitVec.toInt_ofInt_eq_self (by norm_num) (by norm_num; omega) (by norm_num; omega)]

end Cert.Row

end
-- ==== Proof.ChunkAt.lean ====
/- What a chunk's function leaves at each index: the row functions of the chunk's row. -/
module

public import proofs.«01_k».proof.Proof.Chunk
public import proofs.«01_k».proof.Proof.Row
public import Idealize.ShloMosaic.Lib.Pointwise

@[expose] public section

set_option maxRecDepth 16384

noncomputable section

namespace Cert.KernelIdeal.Chunk

open Cert.KernelIdeal Cert.KernelIdeal.Gen Idealize.ShloMosaic Idealize.SL.Sem

variable (g : Vec Ideal S1x2048 .bf16) (x r : Vec Ideal S32x2048 .bf16)

/-- The gains as a function of the lane. -/
abbrev gains (k : Fin 2048) : EReal := g (ix2 0 k)

/-- Row `i` of the chunk's new residual. -/
abbrev sumRow (i : Fin 32) (k : Fin 2048) : EReal := x (ix2 i k) + r (ix2 i k)

/-- Row `i` of the chunk, normalized. -/
abbrev normRow (i : Fin 32) : Fin 2048 → EReal := Row.normed (sumRow x r i) (gains g)

/-- The new residual at an index. -/
theorem new_at (i : Fin 32) (k : Fin 2048) : new x r (ix2 i k) = sumRow x r i k := by
  pointwise [new, k0_pay3]

/-- The normalized chunk. -/
theorem pay4_at (i : Fin 32) (k : Fin 2048) : k0_pay4 g x r (ix2 i k) = normRow g x r i k := by
  pointwise [k0_pay4, k0_pay3, k0_pay2, Row.normed, Row.meanSq]

/-- The least entries of the chunk's rows. -/
theorem pay5_at (i : Fin 32) : k0_pay5 g x r (ix2 i 0) = Row.lo (normRow g x r i) := by
  pointwise [k0_pay5, pay4_at, Row.lo]

/-- The scales of the chunk's rows. -/
theorem scale_at (i : Fin 32) : scale g x r (ix2 i 0) = Row.scale (normRow g x r i) := by
  pointwise [scale, k0_pay6, pay4_at, pay5_at, Row.scale, Row.hi]

/-- The zero points of the chunk's rows. -/
theorem zp_at (i : Fin 32) : zp g x r (ix2 i 0) = Row.zp (normRow g x r i) := by
  have hs : k0_pay6 g x r (ix2 i 0) = _ := scale_at g x r i
  pointwise [zp, k0_pay9, k0_pay8, k0_pay7, pay5_at, hs, Row.zp, Row.clip, Row.round]

/-- The codes at an index. -/
theorem codes_at (i : Fin 32) (k : Fin 2048) : codes g x r (ix2 i k) = Row.code (normRow g x r i) k := by
  have hs : k0_pay6 g x r (ix2 i 0) = _ := scale_at g x r i
  have hz : k0_pay9 (k0_pay7 g x r) 127#32 (k0_pay8 (F := Ideal)) (ix2 i 0) = _ := zp_at g x r i
  pointwise [codes, k0_pay10, pay4_at, hs, hz, Row.code, Row.clip, Row.round]

end Cert.KernelIdeal.Chunk

end
-- ==== Proof.Block.lean ====
/- What the kernel body leaves in the output windows' buffers, at each index, from the input windows' blocks. -/
module

public import proofs.«01_k».proof.Proof.ChunkAt
public import Idealize.ShloMosaic.Lib.Pipeline.ValueKit
public import Idealize.ShloMosaic.Lib.Pipeline.Value

@[expose] public section

set_option maxRecDepth 16384

noncomputable section

namespace Cert.KernelIdeal.Block

open Cert.KernelIdeal Cert.KernelIdeal.Gen Cert.KernelIdeal.Chunk Idealize.ShloMosaic Idealize.SL.Sem

variable (x0 x1 : Vec Ideal S512x2048 .bf16) (x2 : Vec Ideal S1x2048 .bf16)

/-- Row `q` of the block's new residual, normalized. -/
abbrev blockRow (q : Fin 512) : Fin 2048 → EReal :=
  Row.normed (fun k => x0 (ix2 q k) + x1 (ix2 q k)) (fun k => x2 (ix2 0 k))

/-- Row `i` of chunk `n` is row `32 n + i` of the block. -/
theorem rows_at (X : Vec Ideal S512x2048 .bf16) (n : Fin 16) (i : Fin 32) (k : Fin 2048) (q : Fin 512)
    (hq : q.val = 32 * n.val + i.val) : rows n X (ix2 i k) = X (ix2 q k) :=
  View.ld_unit_apply_of X _ _ _ (ix2 i k) (ix2 q k) fun a => match a with
    | ⟨0, _⟩ => hq
    | ⟨1, _⟩ => (Nat.zero_add _).symm

/-- The gains are read whole. -/
theorem gains_ld : View.ld x2 r0_0 = x2 :=
  View.ld_unit_zero (S := S1x2048) (funext fun a => by fin_cases a <;> rfl) _ x2

/-- A chunk's normalized row is the block's. -/
theorem normRow_eq (n : Fin 16) (i : Fin 32) (q : Fin 512) (hq : q.val = 32 * n.val + i.val) :
    normRow (View.ld x2 r0_0) (rows n x0) (rows n x1) i = blockRow x0 x1 x2 q :=
  congrArg₂ Row.normed
    (funext fun k => congrArg₂ (· + ·) (rows_at x0 n i k q hq) (rows_at x1 n i k q hq))
    (funext fun k => congrFun (gains_ld x2) (ix2 0 k))

/-- A buffer stored chunk by chunk, each chunk's payload having at its row `i` the value `v` of the block's row `32 n + i`. -/
theorem canon_at {e : EltTy} (P : Fin 16 → S32x2048.Idx → Elt Ideal e) (v : Fin 512 → Fin 2048 → Elt Ideal e)
    (h : ∀ (n : Fin 16) (i : Fin 32) (k : Fin 2048) (q : Fin 512), q.val = 32 * n.val + i.val → P n (ix2 i k) = v q k)
    (q : Fin 512) (k : Fin 2048) :
    View.canon (Val := Elt Ideal) (s := S512x2048) (e := e)
      (List.ofFn fun n : Fin 16 => (⟨chunk n.rev, P n.rev⟩ : View.Piece (Elt Ideal) S512x2048 e)) (ix2 q k) = v q k := by
  refine View.canon_ofFn_unit_eq_of_forall (S := S512x2048) (fun n : Fin 16 => ![32 * n.rev.val, 0]) S32x2048.size
    (fun n => chunk_inb n.rev) (fun n => P n.rev) (ix2 q k) (v q k) ?_ ?_
  · refine ⟨Fin.rev ⟨q.val / 32, by omega⟩, fun a => ?_⟩
    rw [Fin.rev_rev]
    match a with
    | ⟨0, _⟩ => show 32 * (q.val / 32) ≤ q.val ∧ q.val < 32 * (q.val / 32) + 32; omega
    | ⟨1, _⟩ => show 0 ≤ k.val ∧ k.val < 0 + 2048; omega
  · intro n x hx
    have h0 : q.val = 32 * n.rev.val + (x 0).val := hx 0
    have h1 : k.val = 0 + (x 1).val := hx 1
    have hk : k = x 1 := Fin.ext (by omega)
    have hx' : x = ix2 (x 0) (x 1) := by idx_vars x; rfl
    rw [hx', hk]
    exact h n.rev (x 0) (x 1) q h0

/-- The new residual's block. -/
theorem out3_at (q : Fin 512) (k : Fin 2048) : out0_3 x0 x1 x2 (ix2 q k) = x0 (ix2 q k) + x1 (ix2 q k) := by
  rw [out3_eq]
  refine canon_at (e := .bf16) (fun n => new (rows n x0) (rows n x1)) (fun q k => x0 (ix2 q k) + x1 (ix2 q k))
    (fun n i k q hq => ?_) q k
  rw [new_at, sumRow, rows_at x0 n i k q hq, rows_at x1 n i k q hq]

/-- The codes' block. -/
theorem out4_at (q : Fin 512) (k : Fin 2048) : out0_4 x0 x1 x2 (ix2 q k) = Row.code (blockRow x0 x1 x2 q) k := by
  rw [out4_eq]
  refine canon_at (e := .i8) (fun n => codes (View.ld x2 r0_0) (rows n x0) (rows n x1))
    (fun q k => Row.code (blockRow x0 x1 x2 q) k) (fun n i k q hq => ?_) q k
  rw [codes_at, normRow_eq x0 x1 x2 n i q hq]

/-- Sixteen columns of 32 entries, stacked and laid along the lanes: lane `l` holds entry `l % 32` of column `l / 32`. -/
theorem stack_at (f : Fin 16 → FVec Ideal S32x1 .f32) (v : Fin 512 → EReal)
    (h : ∀ (n : Fin 16) (i : Fin 32) (q : Fin 512), q.val = 32 * n.val + i.val → f n (ix2 i 0) = v q) (l : Fin 512) :
    shapeCast S1x1x512 (concatenate S512x1 0 (List.ofFn fun n : Fin 16 =>
      (⟨S32x1, f n⟩ : (s : Shape) × (s.Idx → Ideal .f32))) concat_ok) Facts₀.shapeCasts_S512x1_S1x1x512 (ix3 0 0 l) = v l := by
  have hc : concatenate S512x1 0 (List.ofFn fun n : Fin 16 =>
      (⟨S32x1, f n⟩ : (s : Shape) × (s.Idx → Ideal .f32))) concat_ok (ix2 l 0) = v l :=
    (concatenate_ofFn_apply (s₁ := S32x1) 0 f concat_ok rfl 32 rfl (ix2 l 0) ⟨l.val / 32, by omega⟩ rfl
      (ix2 ⟨l.val % 32, by omega⟩ 0) rfl (fun b hb => by
        match b with
        | ⟨0, _⟩ => exact absurd rfl hb
        | ⟨1, _⟩ => rfl)).trans
    (h _ _ l (by show l.val = 32 * (l.val / 32) + l.val % 32; omega))
  pointwise [hc]

/-- The scales' block. -/
theorem out5_at (l : Fin 512) : out0_5 x0 x1 x2 (ix3 0 0 l) = Row.scale (blockRow x0 x1 x2 l) := by
  rw [out5_eq, View.canon_unit_zero (S := S1x1x512) (funext fun a => by fin_cases a <;> rfl)]
  refine stack_at _ (fun q => Row.scale (blockRow x0 x1 x2 q)) (fun n i q hq => ?_) l
  rw [scale_at, normRow_eq x0 x1 x2 n i q hq]

/-- The zero points' block. -/
theorem out6_at (l : Fin 512) : out0_6 x0 x1 x2 (ix3 0 0 l) =
    FloatOps.fptosi (F := Ideal) (φ := .f32) 32 (Row.zp (blockRow x0 x1 x2 l)) := by
  rw [out6_eq, View.canon_unit_zero (S := S1x1x512) (funext fun a => by fin_cases a <;> rfl)]
  refine congrArg (FloatOps.fptosi (F := Ideal) (φ := .f32) 32)
    (stack_at _ (fun q => Row.zp (blockRow x0 x1 x2 q)) (fun n i q hq => ?_) l)
  rw [zp_at, normRow_eq x0 x1 x2 n i q hq]

end Cert.KernelIdeal.Block

end
-- ==== Proof.KernelArrays.lean ====
/- What the kernel's four result arrays hold after the run, row by row, from the arrays the kernel is launched on. -/
module

public import proofs.«01_k».proof.Proof.Block

@[expose] public section

set_option maxRecDepth 16384

noncomputable section

namespace Cert.KernelIdeal.Arrays

open Cert.KernelIdeal Cert.KernelIdeal.Gen Cert.KernelIdeal.Block Idealize.ShloMosaic Idealize.SL.Sem

variable (m : (ℓ : Loc nD τ sig) → Buf (Elt Ideal) ℓ) (c : Dev nD)

/-- The first input, flattened to rows, as the kernel is launched on it. -/
abbrev inX : Vec Ideal S44032x2048 .bf16 := V m c main_v0
/-- The second input, flattened to rows. -/
abbrev inR : Vec Ideal S44032x2048 .bf16 := V m c main_v1
/-- The gains, as one row. -/
abbrev inG : Vec Ideal S1x2048 .bf16 := V m c main_v2

/-- Row `p` of the new residual: the sum of the two flattened inputs' rows. -/
abbrev sumRow (p : Fin 44032) (k : Fin 2048) : EReal := inX m c (ix2 p k) + inR m c (ix2 p k)

/-- Row `p`, normalized. -/
abbrev flatRow (p : Fin 44032) : Fin 2048 → EReal := Row.normed (sumRow m c p) (fun k => inG m c (ix2 0 k))

/-- Every window's block index at each point: the row blocks in order; scales and zero points two blocks to an array row. -/
theorem index_eq : ∀ t : Fin cfg0.N, win0_0.index t = ![t.val, 0] ∧ win0_1.index t = ![t.val, 0] ∧ win0_2.index t = ![0, 0] ∧
    win0_3.index t = ![t.val, 0] ∧ win0_4.index t = ![t.val, 0] ∧
    win0_5.index t = ![t.val / 2, 0, t.val % 2] ∧ win0_6.index t = ![t.val / 2, 0, t.val % 2] :=
  (by decide +kernel : ∀ t : Fin grid0.N, _)

/-- Row `q` of the first input's block at point `t` is row `512 t + q` of the array. -/
theorem blk0_at (t : Fin cfg0.N) (q : Fin 512) (k : Fin 2048) (p : Fin 44032) (hp : p.val = 512 * t.val + q.val) :
    (iblk m c 0 t : Vec Ideal S512x2048 .bf16) (ix2 q k) = inX m c (ix2 p k) := by
  have e := (index_eq t).1
  blk_ext [iblk, e]

/-- The second input's block likewise. -/
theorem blk1_at (t : Fin cfg0.N) (q : Fin 512) (k : Fin 2048) (p : Fin 44032) (hp : p.val = 512 * t.val + q.val) :
    (iblk m c 1 t : Vec Ideal S512x2048 .bf16) (ix2 q k) = inR m c (ix2 p k) := by
  have e := (index_eq t).2.1
  blk_ext [iblk, e]

/-- The gains' block is the whole array. -/
theorem blk2_at (t : Fin cfg0.N) (k : Fin 2048) :
    (iblk m c 2 t : Vec Ideal S1x2048 .bf16) (ix2 0 k) = inG m c (ix2 0 k) := by
  have e := (index_eq t).2.2.1
  blk_ext [iblk, e]

/-- Row `q` of the block at point `t`, normalized, is row `512 t + q` of the arrays, normalized. -/
theorem blockRow_eq (t : Fin cfg0.N) (q : Fin 512) (p : Fin 44032) (hp : p.val = 512 * t.val + q.val) :
    blockRow (iblk m c 0 t) (iblk m c 1 t) (iblk m c 2 t) q = flatRow m c p :=
  congrArg₂ Row.normed
    (funext fun k => congrArg₂ (· + ·) (blk0_at m c t q k p hp) (blk1_at m c t q k p hp))
    (funext fun k => blk2_at m c t k)

/-- The number of the row that entry `(b, 0, s)` of a row-statistics array belongs to. -/
abbrev rowOf (b : Fin 43) (s : Fin 1024) : Fin 44032 := ⟨1024 * b.val + s.val, by omega⟩

/-- The new residual's array. -/
theorem final3 : (dats m 0 c).arrAt 3 cfg0.N = (fun i => sumRow m c (i 0) (i 1) : Vec Ideal S44032x2048 .bf16) := by
  refine (dats m 0 c).arrAt_eq_of_covers 3 _ (by decide +kernel) fun t _ y => ?_
  have e := (index_eq t).2.2.2.1
  blk_simp
  rw [after0_3]
  revert y
  show ∀ y : S512x2048.Idx, _
  intro y
  idx_vars y
  have hp : ((win0_3.blk t).view.emb (ix2 y0 y1) 0 : Fin 44032).val = 512 * t.val + y0.val := by
    blk_simp [e]; pointwise; omega
  have hk : ((win0_3.blk t).view.emb (ix2 y0 y1) 1 : Fin 2048) = y1 := Fin.ext (by blk_simp [e])
  refine (out3_at _ _ _ y0 y1).trans ?_
  rw [hk]
  exact congrArg₂ (· + ·) (blk0_at m c t y0 y1 _ hp) (blk1_at m c t y0 y1 _ hp)

/-- The codes' array. -/
theorem final4 : (dats m 0 c).arrAt 4 cfg0.N = (fun i => Row.code (flatRow m c (i 0)) (i 1) : Vec Ideal S44032x2048 .i8) := by
  refine (dats m 0 c).arrAt_eq_of_covers 4 _ (by decide +kernel) fun t _ y => ?_
  have e := (index_eq t).2.2.2.2.1
  blk_simp
  rw [after0_4]
  revert y
  show ∀ y : S512x2048.Idx, _
  intro y
  idx_vars y
  have hp : ((win0_4.blk t).view.emb (ix2 y0 y1) 0 : Fin 44032).val = 512 * t.val + y0.val := by
    blk_simp [e]; pointwise; omega
  have hk : ((win0_4.blk t).view.emb (ix2 y0 y1) 1 : Fin 2048) = y1 := Fin.ext (by blk_simp [e])
  refine (out4_at _ _ _ y0 y1).trans ?_
  rw [hk, blockRow_eq m c t y0 _ hp]

/-- The scales' array. -/
theorem final5 : (dats m 0 c).arrAt 5 cfg0.N = (fun i => Row.scale (flatRow m c (rowOf (i 0) (i 2))) : Vec Ideal S43x1x1024 .f32) := by
  refine (dats m 0 c).arrAt_eq_of_covers 5 _ (by decide +kernel) fun t _ y => ?_
  have e := (index_eq t).2.2.2.2.2.1
  blk_simp
  rw [after0_5]
  revert y
  show ∀ y : S1x1x512.Idx, _
  intro y
  idx_vars y
  obtain rfl : y0 = 0 := Subsingleton.elim _ _
  obtain rfl : y1 = 0 := Subsingleton.elim _ _
  have hb : ((win0_5.blk t).view.emb (ix3 0 0 y2) 0 : Fin 43).val = t.val / 2 := by blk_simp [e]; rfl
  have hs : ((win0_5.blk t).view.emb (ix3 0 0 y2) 2 : Fin 1024).val = t.val % 2 * 512 + y2.val := by
    blk_simp [e]
  refine (out5_at _ _ _ y2).trans ?_
  rw [blockRow_eq m c t y2 (rowOf ((win0_5.blk t).view.emb (ix3 0 0 y2) 0) ((win0_5.blk t).view.emb (ix3 0 0 y2) 2))
    (by show 1024 * _ + _ = _; rw [hb, hs]; omega)]

/-- The zero points' array. -/
theorem final6 : (dats m 0 c).arrAt 6 cfg0.N = (fun i =>
    FloatOps.fptosi (F := Ideal) (φ := .f32) 32 (Row.zp (flatRow m c (rowOf (i 0) (i 2)))) : Vec Ideal S43x1x1024 .i32) := by
  refine (dats m 0 c).arrAt_eq_of_covers 6 _ (by decide +kernel) fun t _ y => ?_
  have e := (index_eq t).2.2.2.2.2.2
  blk_simp
  rw [after0_6]
  revert y
  show ∀ y : S1x1x512.Idx, _
  intro y
  idx_vars y
  obtain rfl : y0 = 0 := Subsingleton.elim _ _
  obtain rfl : y1 = 0 := Subsingleton.elim _ _
  have hb : ((win0_6.blk t).view.emb (ix3 0 0 y2) 0 : Fin 43).val = t.val / 2 := by blk_simp [e]; rfl
  have hs : ((win0_6.blk t).view.emb (ix3 0 0 y2) 2 : Fin 1024).val = t.val % 2 * 512 + y2.val := by
    blk_simp [e]
  refine (out6_at _ _ _ y2).trans ?_
  rw [blockRow_eq m c t y2 (rowOf ((win0_6.blk t).view.emb (ix3 0 0 y2) 0) ((win0_6.blk t).view.emb (ix3 0 0 y2) 2))
    (by show 1024 * _ + _ = _; rw [hb, hs]; omega)]

end Cert.KernelIdeal.Arrays

end
-- ==== Proof.KernelRun.lean ====
/- The kernel's run: each result is one of the four arrays the grid fills, reshaped; the arguments end unchanged. -/
module

public import proofs.«01_k».proof.Proof.KernelArrays
public import Idealize.ShloMosaic.Lib.Claim

@[expose] public section

set_option maxRecDepth 16384

noncomputable section

namespace Cert.KernelIdeal.Run

open Cert.KernelIdeal Cert.KernelIdeal.Gen Cert.KernelIdeal.Arrays Idealize.ShloMosaic Idealize.SL.Sem

variable (m : (ℓ : Loc nD τ sig) → Buf (Elt Ideal) ℓ) (g : Dev nD → PrngReg) (c : Dev nD)

/-- What a buffer holds after the reshapes that follow the grid. -/
abbrev ends (b : Ref sig .tc) : Buf (Elt Ideal) ((c.tc : Thread nD τ).loc b) :=
  Pipeline.afterTail₀ cfgs (dats m) 0 (V0 m) [hostOps1] c b

/-- What an array of the grid holds when those reshapes start. -/
theorem arr_read (w : Fin cfg0.W) :
    Pipeline.withArrays spec0 c (V0 m c) (fun w => (dats m 0 c).arrAt w cfg0.N) (Proc.devRef .tc (Pipeline.arrRef spec0 w)) =
      (dats m 0 c).arrAt w cfg0.N :=
  Pipeline.withArrays_arr spec0 (by decide) c (V0 m c) (fun w => (dats m 0 c).arrAt w cfg0.N) w

/-- The first result is the new residual's array, reshaped. -/
theorem ends_v4 : ends m c main_v4 =
    shapeCast S43x1024x2048 ((dats m 0 c).arrAt 3 cfg0.N : Vec Ideal S44032x2048 .bf16) Facts₀.shapeCasts_S44032x2048_S43x1024x2048 := by
  unfold ends Pipeline.afterTail₀ hostOps1
  simp only [List.flatten_cons, List.flatten_nil, List.append_nil]
  after_results
  exact congrArg (fun a : Vec Ideal S44032x2048 .bf16 => shapeCast S43x1024x2048 a Facts₀.shapeCasts_S44032x2048_S43x1024x2048) (arr_read m c 3)

/-- The second result is the codes' array, reshaped. -/
theorem ends_v5 : ends m c main_v5 =
    shapeCast S43x1024x2048 ((dats m 0 c).arrAt 4 cfg0.N : Vec Ideal S44032x2048 .i8) Facts₀.shapeCasts_S44032x2048_S43x1024x2048 := by
  unfold ends Pipeline.afterTail₀ hostOps1
  simp only [List.flatten_cons, List.flatten_nil, List.append_nil]
  after_results
  exact congrArg (fun a : Vec Ideal S44032x2048 .i8 => shapeCast S43x1024x2048 a Facts₀.shapeCasts_S44032x2048_S43x1024x2048) (arr_read m c 4)

/-- The third result is the scales' array, reshaped. -/
theorem ends_v6 : ends m c main_v6 =
    shapeCast S43x1024x1 ((dats m 0 c).arrAt 5 cfg0.N : Vec Ideal S43x1x1024 .f32) Facts₀.shapeCasts_S43x1x1024_S43x1024x1 := by
  unfold ends Pipeline.afterTail₀ hostOps1
  simp only [List.flatten_cons, List.flatten_nil, List.append_nil]
  after_results
  exact congrArg (fun a : Vec Ideal S43x1x1024 .f32 => shapeCast S43x1024x1 a Facts₀.shapeCasts_S43x1x1024_S43x1024x1) (arr_read m c 5)

/-- The fourth result is the zero points' array, reshaped. -/
theorem ends_v7 : ends m c main_v7 =
    shapeCast S43x1024x1 ((dats m 0 c).arrAt 6 cfg0.N : Vec Ideal S43x1x1024 .i32) Facts₀.shapeCasts_S43x1x1024_S43x1024x1 := by
  unfold ends Pipeline.afterTail₀ hostOps1
  simp only [List.flatten_cons, List.flatten_nil, List.append_nil]
  after_results
  exact congrArg (fun a : Vec Ideal S43x1x1024 .i32 => shapeCast S43x1024x1 a Facts₀.shapeCasts_S43x1x1024_S43x1024x1) (arr_read m c 6)

/-- Every execution ends, with the four results at the reshaped arrays and the arguments unchanged. -/
theorem run : θ_run defs (onTc (τ := τ) (main (F := Ideal))) ⟨m, fun _ => 0, g⟩ (fun r => ∀ c : Dev nD,
    r.2.mem ((c.tc : Thread nD τ).loc main_v4) =
      shapeCast S43x1024x2048 ((dats m 0 c).arrAt 3 cfg0.N : Vec Ideal S44032x2048 .bf16) Facts₀.shapeCasts_S44032x2048_S43x1024x2048
    ∧ r.2.mem ((c.tc : Thread nD τ).loc main_v5) =
      shapeCast S43x1024x2048 ((dats m 0 c).arrAt 4 cfg0.N : Vec Ideal S44032x2048 .i8) Facts₀.shapeCasts_S44032x2048_S43x1024x2048
    ∧ r.2.mem ((c.tc : Thread nD τ).loc main_v6) =
      shapeCast S43x1024x1 ((dats m 0 c).arrAt 5 cfg0.N : Vec Ideal S43x1x1024 .f32) Facts₀.shapeCasts_S43x1x1024_S43x1024x1
    ∧ r.2.mem ((c.tc : Thread nD τ).loc main_v7) =
      shapeCast S43x1024x1 ((dats m 0 c).arrAt 6 cfg0.N : Vec Ideal S43x1x1024 .i32) Facts₀.shapeCasts_S43x1x1024_S43x1024x1
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans (ends_v4 m c),
     ((h.1 c).2 main_v5 (Pipeline.mem_restRefs_of main_v5 (by decide) (by decide))).trans (ends_v5 m c),
     ((h.1 c).2 main_v6 (Pipeline.mem_restRefs_of main_v6 (by decide) (by decide))).trans (ends_v6 m c),
     ((h.1 c).2 main_v7 (Pipeline.mem_restRefs_of main_v7 (by decide) (by decide))).trans (ends_v7 m c),
     h.2 c⟩) (θ_run_and (run_main m g) (unchanged m g))

end Cert.KernelIdeal.Run

end
-- ==== Proof.RefAt.lean ====
/- What the reference leaves at each index: the row functions of the array's row. -/
module

public import proofs.«01_k».proof.Proof.Gen.ReferenceIdeal.Value
public import proofs.«01_k».proof.Proof.Row
public import Idealize.ShloMosaic.Lib.Pointwise

@[expose] public section

set_option maxRecDepth 16384

noncomputable section

namespace Cert.ReferenceIdeal.At

open Cert.ReferenceIdeal Cert.ReferenceIdeal.Gen Idealize.ShloMosaic Idealize.SL.Sem

variable (x r : Vec Ideal S43x1024x2048 .bf16) (g : Vec Ideal S2048 .bf16)

/-- The gains as a function of the lane. -/
abbrev gains (k : Fin 2048) : EReal := g (ix1 k)

/-- Row `(b, s)` of the new residual. -/
abbrev sumRow (b : Fin 43) (s : Fin 1024) (k : Fin 2048) : EReal := x (ix3 b s k) + r (ix3 b s k)

/-- Row `(b, s)`, normalized. -/
abbrev normRow (b : Fin 43) (s : Fin 1024) : Fin 2048 → EReal := Row.normed (sumRow x r b s) (gains g)

/-- The new residual at an index. -/
theorem new_at (b : Fin 43) (s : Fin 1024) (k : Fin 2048) : k0_pay2 x r (ix3 b s k) = sumRow x r b s k := by
  pointwise [k0_pay2]

/-- The normalized rows. -/
theorem pay3_at (b : Fin 43) (s : Fin 1024) (k : Fin 2048) : k0_pay3 x r g (ix3 b s k) = normRow x r g b s k := by
  pointwise [k0_pay3, k0_pay2, Row.normed, Row.meanSq]

/-- The least entries of the rows. -/
theorem pay4_at (b : Fin 43) (s : Fin 1024) : k0_pay4 x r g (ix3 b s 0) = Row.lo (normRow x r g b s) := by
  pointwise [k0_pay4, pay3_at, Row.lo]

/-- The greatest entries of the rows. -/
theorem hi_at (b : Fin 43) (s : Fin 1024) :
    shapeCast S43x1024x1 (multiReduction .maximumf [2] S43x1024 (k0_pay3 x r g) 0xFF800000#32
      Facts₀.reduces_S43x1024x2048_S43x1024 (.inl rfl) rfl) Facts₀.shapeCasts_S43x1024_S43x1024x1 (ix3 b s 0) =
    Row.hi (normRow x r g b s) := by
  pointwise [pay3_at, Row.hi]

/-- The step out of the greatest and the least entries. -/
theorem step_at (U L : FVec Ideal S43x1024x1 .f32) (b : Fin 43) (s : Fin 1024) :
    select (cmpf .oeq U L) (broadcast S43x1024x1 (Scalar.ofBits (F := Ideal) .f32 0x3F800000#32))
      (divf (subf U L) (broadcast S43x1024x1 (Scalar.ofBits .f32 0x437F0000#32))) (ix3 b s 0) =
    if U (ix3 b s 0) = L (ix3 b s 0) then 1
    else Ideal.div (U (ix3 b s 0) - L (ix3 b s 0)) (Ideal.ofBits .f32 1132396544#32) := by
  pointwise

/-- The scales of the rows. -/
theorem scale_at (b : Fin 43) (s : Fin 1024) : k0_pay5 x r g (ix3 b s 0) = Row.scale (normRow x r g b s) := by
  have h := step_at (shapeCast S43x1024x1 (multiReduction .maximumf [2] S43x1024 (k0_pay3 x r g) 0xFF800000#32
      Facts₀.reduces_S43x1024x2048_S43x1024 (.inl rfl) rfl) Facts₀.shapeCasts_S43x1024_S43x1024x1) (k0_pay4 x r g) b s
  rw [hi_at, pay4_at] at h
  exact h

/-- The zero point, an integer, out of the least entries and the scales. -/
theorem point_at (L S : FVec Ideal S43x1024x1 .f32) (b : Fin 43) (s : Fin 1024) :
    fptosi 32 (minimumf (broadcast S43x1024x1 (Scalar.sitofp (F := Ideal) .f32 127#32))
      (maximumf (broadcast S43x1024x1 (Scalar.sitofp .f32 4294967168#32))
        (roundeven (subf (broadcast S43x1024x1 (Scalar.ofBits .f32 0xC3000000#32)) (divf L S))))) (ix3 b s 0) =
    FloatOps.fptosi (F := Ideal) (φ := .f32) 32 (Row.clip (Row.round
      (Ideal.ofBits .f32 3271557120#32 - Ideal.div (L (ix3 b s 0)) (S (ix3 b s 0))))) := by
  pointwise [Row.clip, Row.round]

/-- The zero points of the rows, as 32-bit integers. -/
theorem zp_at (b : Fin 43) (s : Fin 1024) : k0_pay6 x r g (ix3 b s 0) =
    FloatOps.fptosi (F := Ideal) (φ := .f32) 32 (Row.zp (normRow x r g b s)) := by
  have h := point_at (k0_pay4 x r g) (k0_pay5 x r g) b s
  rw [pay4_at, scale_at] at h
  exact h

/-- The codes out of the normalized rows, the scales and the integer zero points. -/
theorem pay1_at (y : FVec Ideal S43x1024x2048 .f32) (S : FVec Ideal S43x1024x1 .f32) (Z : IVec S43x1024x1 32)
    (b : Fin 43) (s : Fin 1024) (k : Fin 2048) :
    k0_pay1 y S Z (ix3 b s k) = FloatOps.fptosi (F := Ideal) (φ := .f32) 8 (Row.clip
      (Row.round (Ideal.div (y (ix3 b s k)) (S (ix3 b s 0))) +
        FloatOps.sitofp (F := Ideal) .f32 (Z (ix3 b s 0)))) := by
  pointwise [k0_pay1, Row.clip, Row.round]

/-- The codes: the reference adds the zero point that went through an integer, which is the zero point itself. -/
theorem codes_at (b : Fin 43) (s : Fin 1024) (k : Fin 2048) :
    k0_pay1 (k0_pay3 x r g) (k0_pay5 x r g) (k0_pay6 x r g) (ix3 b s k) = Row.code (normRow x r g b s) k := by
  rw [pay1_at, pay3_at, scale_at, zp_at, Row.sitofp_fptosi_zp]
  rfl

/-- The loads of the whole arguments read the arguments. -/
theorem ld_whole (a : Vec Ideal S43x1024x2048 .bf16) : View.ld a r0_0 = a :=
  View.ld_unit_zero (S := S43x1024x2048) (funext fun a => by fin_cases a <;> rfl) _ a

/-- The load of the whole gains reads the gains. -/
theorem ld_gains : View.ld g r0_1 = g :=
  View.ld_unit_zero (S := S2048) (funext fun a => by fin_cases a; rfl) _ g

/-- The reference's scales are the payload over the whole arguments. -/
theorem pay7_eq : k0_pay7 x r g = k0_pay5 x r g := by
  unfold k0_pay7
  rw [ld_whole, ld_whole, ld_gains]

/-- The reference's zero points likewise. -/
theorem pay8_eq : k0_pay8 x r g = k0_pay6 x r g := by
  unfold k0_pay8
  rw [ld_whole, ld_whole, ld_gains]

/-- The reference's second result at an index. -/
theorem out_codes (b : Fin 43) (s : Fin 1024) (k : Fin 2048) :
    Value.G4 x r g (ix3 b s k) = Row.code (normRow x r g b s) k := by
  rw [Value.G4, pay7_eq, pay8_eq, codes_at]

/-- The reference's third result at an index. -/
theorem out_scale (b : Fin 43) (s : Fin 1024) : Value.G5 x r g (ix3 b s 0) = Row.scale (normRow x r g b s) := by
  rw [Value.G5, pay7_eq, scale_at]

/-- The reference's fourth result at an index. -/
theorem out_zp (b : Fin 43) (s : Fin 1024) : Value.G6 x r g (ix3 b s 0) =
    FloatOps.fptosi (F := Ideal) (φ := .f32) 32 (Row.zp (normRow x r g b s)) := by
  rw [Value.G6, pay8_eq, zp_at]

end Cert.ReferenceIdeal.At

end
-- ==== Proof.Equation.lean ====
/- The kernel's flattened arrays against the reference's: row `1024 b + s` of the one is row `(b, s)` of the other. -/
module

public import proofs.«01_k».proof.Proof.KernelArrays
public import proofs.«01_k».proof.Proof.RefAt
public import Idealize.ShloMosaic.Lib.Claim

@[expose] public section

set_option maxRecDepth 16384

noncomputable section

namespace Cert.Equation

open Cert.KernelIdeal Cert.KernelIdeal.Gen Cert.KernelIdeal.Arrays Idealize.ShloMosaic Idealize.SL.Sem

variable (m : (ℓ : Loc nD τ sig) → Buf (Elt Ideal) ℓ) (c : Dev nD)

/-- The first argument. -/
abbrev argX : Vec Ideal S43x1024x2048 .bf16 := m ((c.tc : Thread nD τ).loc main_arg0)
/-- The second argument. -/
abbrev argR : Vec Ideal S43x1024x2048 .bf16 := m ((c.tc : Thread nD τ).loc main_arg1)
/-- The gains argument. -/
abbrev argG : Vec Ideal S2048 .bf16 := m ((c.tc : Thread nD τ).loc main_arg2)

/-- The flattened first input is the argument reshaped. -/
theorem inX_eq : inX m c = shapeCast S44032x2048 (argX m c) Facts₀.shapeCasts_S43x1024x2048_S44032x2048 := by
  show V m c main_v0 = _
  entry_read
  rfl

/-- The flattened second input likewise. -/
theorem inR_eq : inR m c = shapeCast S44032x2048 (argR m c) Facts₀.shapeCasts_S43x1024x2048_S44032x2048 := by
  show V m c main_v1 = _
  entry_read
  rfl

/-- The gains' row is the gains reshaped. -/
theorem inG_eq : inG m c = shapeCast S1x2048 (argG m c) Facts₀.shapeCasts_S2048_S1x2048 := by
  show V m c main_v2 = _
  entry_read
  rfl

/-- A flattened array's row `1024 b + s` is the array's row `(b, s)`. -/
theorem flat_at (x : Vec Ideal S43x1024x2048 .bf16) (b : Fin 43) (s : Fin 1024) (k : Fin 2048) :
    shapeCast S44032x2048 x Facts₀.shapeCasts_S43x1024x2048_S44032x2048 (ix2 (rowOf b s) k) = x (ix3 b s k) := by
  have hb : (⟨(1024 * b.val + s.val) / 1024, by omega⟩ : Fin 43) = b := Fin.ext (by dsimp only; omega)
  have hs : (⟨(1024 * b.val + s.val) % 1024, by omega⟩ : Fin 1024) = s := Fin.ext (by dsimp only; omega)
  pointwise [hb, hs]

/-- The kernel's row `1024 b + s` of the new residual is the reference's row `(b, s)`. -/
theorem sumRow_eq (b : Fin 43) (s : Fin 1024) :
    sumRow m c (rowOf b s) = Cert.ReferenceIdeal.At.sumRow (argX m c) (argR m c) b s := by
  funext k
  unfold sumRow
  rw [inX_eq, inR_eq, flat_at, flat_at]

/-- The kernel's normalized row `1024 b + s` is the reference's normalized row `(b, s)`. -/
theorem flatRow_eq (b : Fin 43) (s : Fin 1024) :
    flatRow m c (rowOf b s) = Cert.ReferenceIdeal.At.normRow (argX m c) (argR m c) (argG m c) b s := by
  refine congrArg₂ Row.normed (sumRow_eq m c b s) (funext fun k => ?_)
  rw [inG_eq]
  pointwise

/-- Reshaped back to batches, entry `(b, s, k)` of a flat array is its entry `(1024 b + s, k)`. -/
theorem batch_at {α : Type} (x : S44032x2048.Idx → α) (b : Fin 43) (s : Fin 1024) (k : Fin 2048) :
    shapeCast S43x1024x2048 x Facts₀.shapeCasts_S44032x2048_S43x1024x2048 (ix3 b s k) = x (ix2 (rowOf b s) k) := by
  have hr : (⟨b.val * 1024 + s.val, by omega⟩ : Fin 44032) = rowOf b s := Fin.ext (by dsimp only; omega)
  pointwise [hr]

/-- Reshaped to a column, entry `(b, s)` of an array of row statistics is its entry `(b, 0, s)`. -/
theorem column_at {α : Type} (x : S43x1x1024.Idx → α) (b : Fin 43) (s : Fin 1024) :
    shapeCast S43x1024x1 x Facts₀.shapeCasts_S43x1x1024_S43x1024x1 (ix3 b s 0) = x (ix3 b 0 s) := by
  pointwise

/-- The new residual: the kernel's is the reference's. -/
theorem new_eq :
    shapeCast S43x1024x2048 ((dats m 0 c).arrAt 3 cfg0.N : Vec Ideal S44032x2048 .bf16)
      Facts₀.shapeCasts_S44032x2048_S43x1024x2048 = Cert.ReferenceIdeal.Value.G3 (argX m c) (argR m c) (argG m c) := by
  rw [final3]
  funext j
  idx_vars j
  refine (batch_at _ j0 j1 j2).trans (Eq.trans ?_ (Cert.ReferenceIdeal.At.new_at _ _ j0 j1 j2).symm)
  exact congrFun (sumRow_eq m c j0 j1) j2

/-- The codes. -/
theorem codes_eq :
    shapeCast S43x1024x2048 ((dats m 0 c).arrAt 4 cfg0.N : Vec Ideal S44032x2048 .i8)
      Facts₀.shapeCasts_S44032x2048_S43x1024x2048 = Cert.ReferenceIdeal.Value.G4 (argX m c) (argR m c) (argG m c) := by
  rw [final4]
  funext j
  idx_vars j
  refine (batch_at _ j0 j1 j2).trans (Eq.trans ?_ (Cert.ReferenceIdeal.At.out_codes _ _ _ j0 j1 j2).symm)
  exact congrArg (Row.code · j2) (flatRow_eq m c j0 j1)

/-- The scales. -/
theorem scale_eq :
    shapeCast S43x1024x1 ((dats m 0 c).arrAt 5 cfg0.N : Vec Ideal S43x1x1024 .f32)
      Facts₀.shapeCasts_S43x1x1024_S43x1024x1 = Cert.ReferenceIdeal.Value.G5 (argX m c) (argR m c) (argG m c) := by
  rw [final5]
  funext j
  idx_vars j
  obtain rfl : j2 = 0 := Subsingleton.elim _ _
  refine (column_at _ j0 j1).trans (Eq.trans ?_ (Cert.ReferenceIdeal.At.out_scale _ _ _ j0 j1).symm)
  exact congrArg Row.scale (flatRow_eq m c j0 j1)

/-- The zero points. -/
theorem zp_eq :
    shapeCast S43x1024x1 ((dats m 0 c).arrAt 6 cfg0.N : Vec Ideal S43x1x1024 .i32)
      Facts₀.shapeCasts_S43x1x1024_S43x1024x1 = Cert.ReferenceIdeal.Value.G6 (argX m c) (argR m c) (argG m c) := by
  rw [final6]
  funext j
  idx_vars j
  obtain rfl : j2 = 0 := Subsingleton.elim _ _
  refine (column_at _ j0 j1).trans (Eq.trans ?_ (Cert.ReferenceIdeal.At.out_zp _ _ _ j0 j1).symm)
  exact congrArg (fun y => FloatOps.fptosi (F := Ideal) (φ := .f32) 32 (Row.zp y)) (flatRow_eq m c j0 j1)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem

/-- Over the extended reals the kernel and the reference, on the same arguments, end with the same four results. -/
theorem algebraic : Cert.algebraic_KernelIdeal_ReferenceIdeal := by
  intro m g m' g' _ hagree
  refine ⟨_, _, _, _, Cert.KernelIdeal.Run.run m g, ?_⟩
  refine (θ_run Cert.ReferenceIdeal.defs _ _).mono (fun r h c => ?_) (Cert.ReferenceIdeal.Value.run m' g')
  obtain ⟨h3, h4, h5, h6, hargs⟩ := h c
  obtain ⟨e0, e1, e2⟩ := hagree c
  rw [e0, e1, e2] at h3 h4 h5 h6
  exact ⟨h3.trans (Cert.Equation.new_eq m c).symm, h4.trans (Cert.Equation.codes_eq m c).symm,
    h5.trans (Cert.Equation.scale_eq m c).symm, h6.trans (Cert.Equation.zp_eq m c).symm, hargs⟩

/-- All the claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, algebraic⟩

end Cert.Proof

end
